-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 512]⟩ ⟨2, ![512, 512]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![512, 256]⟩ ⟨2, ![512, 512]⟩ (Layout.meshBlock [2, 2] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x512, .bf16⟩
  | .local _ .vmem, ⟨1, _⟩ => ⟨S512x256, .bf16⟩
  | _, _ => ⟨S256x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_7 : BitVec 32 := 256#32
  let v13 : BitVec 32 := Scalar.muli v5 c256_i32_7
  let c0_i32_11 : BitVec 32 := 0#32
  ![v13.toNat, 0]
def k0_off2 (d0 : Dev nD) : Fin 2 → Nat :=
  let c0_i32_12 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c256_i32 : BitVec 32 := 256#32
  let v12 : BitVec 32 := Scalar.muli v6 c256_i32
  ![0, v12.toNat]
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_10 : BitVec 32 := 1#32
  let v16 : BitVec 32 := Scalar.muli v6 c1_i32_10
  let v17 : BitVec 32 := Scalar.addi v15 v16
  v17.toNat
def k0_off3 (d0 : Dev nD) : Fin 2 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_13 : BitVec 32 := 256#32
  let v20 : BitVec 32 := Scalar.muli v5 c256_i32_13
  let v21 : Index := Scalar.indexCast v20
  ![0, v21.toNat]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_14 : BitVec 32 := 256#32
  let v24 : BitVec 32 := Scalar.muli v5 c256_i32_14
  let v25 : Index := Scalar.indexCast v24
  let c0_15 : Index := 0#32
  ![v25.toNat, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Swap.lean ====
/-
# The exchange: who talks to whom, and which parts of which buffers

The mesh is two by two. Device `c` has the coordinates `(c / 2, c % 2)`; the exchange runs inside the pairs that share the
first coordinate, so the only other device that `c` ever meets is `mate c`, whose second coordinate is the other one.

Device `c` holds 256 rows of `x`, all 512 columns, and is to end with all 512 rows of 256 columns. Its output buffer is
cut into two bands of 256 rows: band `c % 2` it fills itself, from the columns of its own rows that it keeps; the other
band its mate fills by a remote copy. Its input buffer is cut into two halves of 256 columns: half `c % 2` it keeps, the
other half it sends.

This module names those parts as views, shows that the two bands are the whole output buffer and the two halves the whole
input buffer, and states the contents the output buffer is to have (`result`) together with the fact that both the copy
inside a device and the remote copy write what `result` says on their band.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pairs -/

/-- The other device of `c`'s pair: same first coordinate, the other second one. -/
def mate (c : Dev nD) : Dev nD :=
  ⟨2 * (c.val / 2) + 1 - c.val % 2, by have h : c.val < 4 := c.isLt; show _ < 4; omega⟩

theorem mate_mate (c : Dev nD) : mate (mate c) = c := by
  apply Fin.ext; show 2 * ((2 * (c.val / 2) + 1 - c.val % 2) / 2) + 1 - (2 * (c.val / 2) + 1 - c.val % 2) % 2 = c.val; omega

/-- A device and its mate share the first coordinate. -/
theorem mate_half (c : Dev nD) : (mate c).val / 2 = c.val / 2 := by
  show (2 * (c.val / 2) + 1 - c.val % 2) / 2 = c.val / 2; omega

/-- Their second coordinates differ. -/
theorem mate_parity (c : Dev nD) : (mate c).val % 2 = 1 - c.val % 2 := by
  show (2 * (c.val / 2) + 1 - c.val % 2) % 2 = 1 - c.val % 2; omega

/-- Taking mates is a permutation of the devices, its own inverse. -/
def mates : Dev nD ≃ Dev nD := ⟨mate, mate, mate_mate, mate_mate⟩

/-- The device that the kernel's entry signal names is the mate. -/
theorem signal_target (c : Dev nD) : (⟨k0_dev1 c, k0_dev1_lt c⟩ : Dev nD) = mate c := Fin.ext (k0_dev1_eq c)
/-- The device that the remote copy names is the mate. -/
theorem copy_target (c : Dev nD) : (⟨k0_dev2 c, k0_dev2_lt c⟩ : Dev nD) = mate c := Fin.ext (k0_dev2_eq c)

/-! ## The buffers and their parts -/

/-- The buffer in which the kernel finds its rows of `x`. -/
abbrev inBuf : Memref sig .tc .vmem S256x512 .bf16 := Memref.whole cc0_stg0_0
/-- The buffer in which the kernel leaves its columns of the result. -/
abbrev outBuf : Memref sig .tc .vmem S512x256 .bf16 := Memref.whole cc0_stg1_0

/-- Band of the output buffer that holds the rows of device `d`, as a rectangle: what the remote copy of `d` writes. -/
abbrev bandRect (d : Dev nD) : Rect S512x256 := Rect.unit (s := S512x256) (k0_off1 d) S256x256.size (k0_off1_inb d)
/-- The same band, as the store of `d` into its own buffer names it. -/
abbrev ownRect (d : Dev nD) : Rect S512x256 := Rect.unit (s := S512x256) (k0_off4 d) S256x256.size (k0_off4_inb d)
/-- The columns of its rows that `d` sends away. -/
abbrev sendRect (d : Dev nD) : Rect S256x512 := Rect.unit (s := S256x512) (k0_off2 d) S256x256.size (k0_off2_inb d)
/-- The columns of its rows that `d` keeps. -/
abbrev keepRect (d : Dev nD) : Rect S256x512 := Rect.unit (s := S256x512) (k0_off3 d) S256x256.size (k0_off3_inb d)

/-- The band of `d`'s rows as a memref, the destination of `d`'s remote copy. -/
abbrev band (d : Dev nD) : Memref sig .tc .vmem S256x256 .bf16 := outBuf.slice (bandRect d) (fun _ => rfl)
/-- The columns that `d` sends as a memref, the source of its remote copy. -/
abbrev sendCols (d : Dev nD) : Memref sig .tc .vmem S256x256 .bf16 := inBuf.slice (sendRect d) (fun _ => rfl)

/-- Rectangles of one size at equal offsets are equal. -/
theorem unit_eq {s : Shape} {size o o' : Fin s.rank → ℕ} (h : o = o') (b : ∀ a, o a + size a ≤ s.size a)
    (b' : ∀ a, o' a + size a ≤ s.size a) : Rect.unit (s := s) o size b = Rect.unit (s := s) o' size b' := by
  subst h; rfl

/-- The store and the remote copy of one device name the same rows. -/
theorem ownRect_eq (d : Dev nD) : ownRect d = bandRect d :=
  unit_eq (s := S512x256) (size := S256x256.size) ((k0_off4_eq d).trans (k0_off1_eq d).symm) _ _

/-- An index lies in `d`'s band exactly when its row does. -/
theorem mem_band (d : Dev nD) (i : S512x256.Idx) : i ∈ (band d).view.set ↔ (i 0).val / 256 = d.val % 2 := by
  have hset : (band d).view.set = (bandRect d).set := View.set_slice_whole _ _
  rw [hset, Rect.mem_set_unit]
  have h0 : (i 0).val < 512 := (i 0).isLt
  have h1 : (i 1).val < 256 := (i 1).isLt
  rw [Fin.forall_fin_two, k0_off1_eq]
  show (256 * (d.val % 2) ≤ (i 0).val ∧ (i 0).val < 256 * (d.val % 2) + 256) ∧ (0 ≤ (i 1).val ∧ (i 1).val < 0 + 256) ↔ _
  omega

/-- An index lies in the columns that `d` sends exactly when its column is in the half that is not `d`'s. -/
theorem mem_sendCols (d : Dev nD) (i : S256x512.Idx) : i ∈ (sendCols d).view.set ↔ (i 1).val / 256 = 1 - d.val % 2 := by
  have hset : (sendCols d).view.set = (sendRect d).set := View.set_slice_whole _ _
  rw [hset, Rect.mem_set_unit]
  have h0 : (i 0).val < 256 := (i 0).isLt
  have h1 : (i 1).val < 512 := (i 1).isLt
  rw [Fin.forall_fin_two, k0_off2_eq]
  show (0 ≤ (i 0).val ∧ (i 0).val < 0 + 256) ∧ (256 - 256 * (d.val % 2) ≤ (i 1).val ∧ (i 1).val < 256 - 256 * (d.val % 2) + 256) ↔ _
  omega

/-- An index lies in the columns that `d` keeps exactly when its column is in `d`'s half. -/
theorem mem_keep (d : Dev nD) (i : S256x512.Idx) : i ∈ (inBuf.access (keepRect d)).set ↔ (i 1).val / 256 = d.val % 2 := by
  have hset : (inBuf.access (keepRect d)).set = (keepRect d).set := View.set_slice_whole _ _
  rw [hset, Rect.mem_set_unit]
  have h0 : (i 0).val < 256 := (i 0).isLt
  have h1 : (i 1).val < 512 := (i 1).isLt
  rw [Fin.forall_fin_two, k0_off3_eq]
  show (0 ≤ (i 0).val ∧ (i 0).val < 0 + 256) ∧ (256 * (d.val % 2) ≤ (i 1).val ∧ (i 1).val < 256 * (d.val % 2) + 256) ↔ _
  omega

/-- The band the mate writes is the rest of the output buffer beside the band `c` writes. -/
theorem rest_band (c : Dev nD) : (Finset.univ : Finset S512x256.Idx) \ (band c).view.set = (band (mate c)).view.set := by
  ext i
  have h0 : (i 0).val < 512 := (i 0).isLt
  rw [Finset.mem_sdiff, mem_band, mem_band, mate_parity]
  simp only [Finset.mem_univ, true_and]
  omega

/-- The columns kept lie outside the columns sent. -/
theorem keep_sub (c : Dev nD) : (inBuf.access (keepRect c)).set ⊆ (Finset.univ : Finset S256x512.Idx) \ (sendCols c).view.set := by
  intro i hi
  rw [mem_keep] at hi
  rw [Finset.mem_sdiff, mem_sendCols]
  refine ⟨Finset.mem_univ _, ?_⟩
  omega

/-! ## Contents -/

/-- The device of `c`'s pair whose rows are band `b` of the output buffer. -/
def holder (c : Dev nD) (b : Fin 2) : Dev nD := ⟨2 * (c.val / 2) + b.val, by have h : c.val < 4 := c.isLt; have := b.isLt; show _ < 4; omega⟩

theorem holder_self (c d : Dev nD) (h : d.val / 2 = c.val / 2) (b : Fin 2) (hb : b.val = d.val % 2) : holder c b = d := by
  apply Fin.ext; show 2 * (c.val / 2) + b.val = d.val; omega

/-- Row `r`, column `k` of the rows a device holds. -/
abbrev at512 (r : Fin 256) (k : Fin 512) : S256x512.Idx := fun a => match a with | ⟨0, _⟩ => r | ⟨1, _⟩ => k

/-- The contents the output buffer of device `c` is to have, when device `d` holds the rows `X d`: at row `i`, column `j`
    the entry of row `i mod 256` of the pair's device number `i / 256`, at column `256 (c mod 2) + j`. -/
def result (X : Dev nD → S256x512.Idx → Elt F .bf16) (c : Dev nD) : S512x256.Idx → Elt F .bf16 := fun i =>
  X (holder c ⟨(i 0).val / 256, by have h : (i 0).val < 512 := (i 0).isLt; omega⟩)
    (at512 ⟨(i 0).val % 256, Nat.mod_lt _ (by decide)⟩
      ⟨256 * (c.val % 2) + (i 1).val, by have h : (i 1).val < 256 := (i 1).isLt; omega⟩)

/-- Writing into the band of `d`'s rows the columns `256 (c mod 2)` and on of the rows `d` holds leaves there what `result`
    says of device `c`, whatever was there before, for either device `d` of `c`'s pair. -/
theorem band_written (X : Dev nD → S256x512.Idx → Elt F .bf16) (c d : Dev nD) (hd : d.val / 2 = c.val / 2)
    (od : Fin 2 → ℕ) (os : Fin 2 → ℕ) (hod : od = ![256 * (d.val % 2), 0]) (hos : os = ![0, 256 * (c.val % 2)])
    (bd : ∀ a, od a + S256x256.size a ≤ S512x256.size a) (bs : ∀ a, os a + S256x256.size a ≤ S256x512.size a)
    (f : S512x256.Idx → Elt F .bf16) (i : S512x256.Idx)
    (hi : i ∈ (outBuf.view.slice (Rect.unit (s := S512x256) od S256x256.size bd)).set) :
    (outBuf.view.slice (Rect.unit (s := S512x256) od S256x256.size bd)).write (Elt F) f
        ((inBuf.view.slice (Rect.unit (s := S256x512) os S256x256.size bs)).read (Elt F) (X d)) Finset.univ i
      = result X c i := by
  subst hod hos
  obtain ⟨y, rfl⟩ := View.exists_emb_of_mem_set _ hi
  rw [View.write_emb_of_mem _ _ (Finset.mem_univ y)]
  have hy0 : (y 0).val < 256 := (y 0).isLt
  have hy1 : (y 1).val < 256 := (y 1).isLt
  show X d ((inBuf.view.slice (Rect.unit (s := S256x512) ![0, 256 * (c.val % 2)] S256x256.size bs)).emb y) = _
  have e0 : ((outBuf.view.slice (Rect.unit (s := S512x256) ![256 * (d.val % 2), 0] S256x256.size bd)).emb y 0).val
      = 256 * (d.val % 2) + 1 * (y 0).val := rfl
  have e1 : ((outBuf.view.slice (Rect.unit (s := S512x256) ![256 * (d.val % 2), 0] S256x256.size bd)).emb y 1).val
      = 0 + 1 * (y 1).val := rfl
  unfold result
  rw [holder_self c d hd _ (by show _ / 256 = _; rw [e0]; omega)]
  congr 1
  funext a
  match a with
  | ⟨0, _⟩ =>
    apply Fin.ext
    show 0 + 1 * (y 0).val = _ % 256
    rw [e0]; omega
  | ⟨1, _⟩ =>
    apply Fin.ext
    show 256 * (c.val % 2) + 1 * (y 1).val = 256 * (c.val % 2) + _
    rw [e1]; omega

/-- The remote copy of `d` into its mate: the sent columns of `d`'s rows, written into the band of `d`'s rows. -/
theorem copy_written (X : Dev nD → S256x512.Idx → Elt F .bf16) (d : Dev nD) (f : S512x256.Idx → Elt F .bf16)
    (i : S512x256.Idx) (hi : i ∈ (band d).view.set) :
    (band d).view.write (Elt F) f ((sendCols d).view.read (Elt F) (X d)) Finset.univ i = result X (mate d) i :=
  band_written X (mate d) d (mate_half d).symm (k0_off1 d) (k0_off2 d) (k0_off1_eq d)
    ((k0_off2_eq d).trans (by rw [mate_parity]; congr 1; have : 256 - 256 * (d.val % 2) = 256 * (1 - d.val % 2) := by omega
                              rw [this]))
    _ _ f i hi

/-- The store of `c` into its own buffer: the kept columns of its rows, written into the band of its rows. -/
theorem store_written (X : Dev nD → S256x512.Idx → Elt F .bf16) (c : Dev nD) (f : S512x256.Idx → Elt F .bf16)
    (i : S512x256.Idx) (hi : i ∈ (band c).view.set) :
    (outBuf.access (ownRect c)).write (Elt F) f ((inBuf.access (keepRect c)).read (Elt F) (X c)) Finset.univ i = result X c i :=
  band_written X c c rfl (k0_off4 c) (k0_off3 c) (k0_off4_eq c) (k0_off3_eq c) _ _ f i
    (by rw [show Rect.unit (s := S512x256) (k0_off4 c) S256x256.size _ = bandRect c from ownRect_eq c]; exact hi)

/-- The value the kernel stores is the value it loaded. -/
theorem stored_eq (v : Vec F S256x256 .bf16) : k0_pay1 v = v := by unfold k0_pay1; exact shapeCast_self _ _

end Cert.Swap

end
-- ==== Proof.Schedule.lean ====
/-
# The protocol of the exchange

Each device has three semaphores, and each is raised once:

* `entry` — the barrier semaphore. The mate raises it by 1 when it has entered the kernel. What comes with it: the band of
  the MATE's output buffer into which this device is to copy, and the fact that the mate's `landed` semaphore is in its
  first round. This device waits for it before it copies.
* `sent` — the copy's send semaphore. This device's own copy raises it by the copy's amount once the source has been read.
  What comes with it: the columns lent to the copy, holding what they held.
* `landed` — the copy's receive semaphore. The mate's copy raises it by the copy's amount once it has landed. What comes
  with it: the band of this device's output buffer that the mate fills, holding what `result` says.

The module states this as a schedule of the rounds library with one round and one duty per semaphore, lists what a device
owes at launch (its mate's `entry` unit and its mate's `landed` amount), and gives the order in which the waits are safe:
a device waits on `entry` while it still owes a `landed` amount, so `entry` is below `landed`.
-/
module

public import proofs.«01_k».proof.Proof.Swap

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The ghost state: one copy of the rounds library for the pipeline around the kernel, one for the exchange. -/
abbrev Ghost : Type := UR sig nD τ × UR sig nD τ

local notation "𝕄" => MT nD τ sig Unit (Elt F) ℕ Ghost ℕ

/-- The pipeline's copy. -/
abbrev pipeG : Emb (UR sig nD τ) (MT nD τ sig Unit (Elt F) ℕ Ghost ℕ) := embL
/-- The exchange's copy. -/
abbrev swapG : Emb (UR sig nD τ) (MT nD τ sig Unit (Elt F) ℕ Ghost ℕ) := embR

variable (m : (ℓ : Loc nD τ sig) → Buf (Elt F) ℓ)

/-- The rows of `x` that device `d`'s kernel finds in its input buffer: its block of the argument array as launched. -/
def rows (d : Dev nD) : S256x512.Idx → Elt F .bf16 :=
  (win0_0.blk (0 : Fin 1)).view.read (Elt F) (m ((d : Thread nD τ).loc main_arg0))

/-- Device `c` owns the band of `d`'s rows in its own output buffer, at contents `f`. -/
def ownBand (c d : Dev nD) (f : Buf (Elt F) ((c : Thread nD τ).loc cc0_stg1_0)) : sProp 𝕄 :=
  ((c : Thread nD τ).loc cc0_stg1_0) ↦[(band d).view.set]{fullShare} f

/-- Device `c` owns the columns it sends, holding its rows. -/
def ownSend (c : Dev nD) : sProp 𝕄 :=
  ((c : Thread nD τ).loc cc0_stg0_0) ↦[(sendCols c).view.set]{fullShare} (rows m c : Buf (Elt F) ((c : Thread nD τ).loc cc0_stg0_0))

omit [FloatOps F] in
instance ownBand_storable (c d : Dev nD) (f) : BI.Storable (upEmb : UEmb _ 𝕄) (ownBand (F := F) c d f) := by
  unfold ownBand; infer_instance
omit [FloatOps F] in
instance ownSend_storable (c : Dev nD) : BI.Storable (upEmb : UEmb _ 𝕄) (ownSend (F := F) m c) := by
  unfold ownSend; infer_instance

/-! ## The three semaphores -/

/-- The three things a device waits for. -/
inductive Event where
  | entry | sent | landed
  deriving DecidableEq

instance : Fintype Event := ⟨{.entry, .sent, .landed}, fun e => by cases e <;> decide⟩

/-- The semaphore of each event. -/
def Event.sem : Event → SemLoc sig
  | .entry => .reg (SemArray.scalar (sig.barrier 0 rfl) : Sems sig S_).sem
  | .sent => .dma cc0_scratch0.sem
  | .landed => .dma cc0_scratch1.sem

theorem Event.sem_inj {e e' : Event} (h : e.sem = e'.sem) : e = e' := by
  revert h; cases e <;> cases e' <;> decide

/-- Which event a semaphore announces, if any. -/
def eventOf (s : SemLoc sig) : Option Event :=
  if s = Event.entry.sem then some .entry else if s = Event.sent.sem then some .sent
  else if s = Event.landed.sem then some .landed else none

theorem eventOf_sem (e : Event) : eventOf e.sem = some e := by cases e <;> decide

/-- Event `e` of device `c`, as a semaphore of the machine. -/
abbrev cell (c : Dev nD) (e : Event) : GSem nD τ sig := ((c : Thread nD τ), e.sem)

theorem cell_inj {c c' : Dev nD} {e e' : Event} (h : cell c e = cell c' e') : c = c' ∧ e = e' :=
  ⟨congrArg (fun g : GSem nD τ sig => g.1.1) h, Event.sem_inj (congrArg Prod.snd h)⟩

/-- The amount by which one copy raises each of its two semaphores. -/
abbrev amt : ℕ := (band (0 : Dev nD)).view.dmaCredit
theorem amt_pos : 0 < amt := View.dmaCredit_pos _ (by decide)

/-- What raises the semaphore of an event raises it by. -/
def Event.amount : Event → ℕ
  | .entry => 1 | .sent => amt | .landed => amt

/-- What comes with an event of device `c`. -/
def gift (c : Dev nD) : Event → sProp 𝕄
  | .entry => iprop((∃ f, ownBand (mate c) c f) ∗ reached swapG (cell (mate c) .landed) 0)
  | .sent => ownSend m c
  | .landed => ownBand c (mate c) (result (rows m) c)

instance gift_storable (c : Dev nD) (e : Event) : BI.Storable (upEmb : UEmb _ 𝕄) (gift (F := F) m c e) := by
  cases e <;> (unfold gift; infer_instance)

/-- The schedule: one round in which each event happens once. -/
def sched : Rounds.Schedule (GSem nD τ sig) Unit 𝕄 where
  duties g r := if r = 0 ∧ g.1.2 = .tc ∧ (eventOf g.2).isSome then {()} else ∅
  unitless _ := False
  amount g _ _ := (eventOf g.2).elim 1 Event.amount
  payload g _ _ := (eventOf g.2).elim iprop(emp) (gift m g.1.1)
  amount_pos g _ _ _ := by
    cases eventOf g.2 with
    | none => exact Nat.one_pos
    | some e => cases e <;> first | exact Nat.one_pos | exact amt_pos

instance sched_storable (g : GSem nD τ sig) (r : ℕ) (d : Unit) :
    BI.Storable (upEmb : UEmb _ 𝕄) ((sched (F := F) m).payload g r d) := by
  show BI.Storable upEmb ((eventOf g.2).elim iprop(emp) (gift m g.1.1))
  cases eventOf g.2 <;> (simp only [Option.elim]; infer_instance)

variable (c : Dev nD) (e : Event)

theorem sched_duties : (sched (F := F) m).duties (cell c e) 0 = {()} := by
  show (if (0 = 0 ∧ _ ∧ (eventOf e.sem).isSome) then _ else _) = _
  rw [eventOf_sem]; exact if_pos ⟨rfl, rfl, rfl⟩

theorem sched_mem : () ∈ (sched (F := F) m).duties (cell c e) 0 := by rw [sched_duties]; exact Finset.mem_singleton_self _

theorem sched_later (g : GSem nD τ sig) : ∀ r, 1 ≤ r → (sched (F := F) m).duties g r = ∅ :=
  fun r hr => if_neg fun h => by have := h.1; omega

theorem sched_amount (r : ℕ) (d : Unit) : (sched (F := F) m).amount (cell c e) r d = e.amount := by
  show (eventOf e.sem).elim 1 Event.amount = _; rw [eventOf_sem]; rfl

theorem sched_payload (r : ℕ) (d : Unit) : (sched (F := F) m).payload (cell c e) r d = gift m c e := by
  show (eventOf e.sem).elim iprop(emp) (gift m c) = _; rw [eventOf_sem]; rfl

/-- The round is over when the one amount has come. -/
theorem sched_expect : (sched (F := F) m).expect (cell c e) 0 = e.amount := by
  unfold Schedule.expect Schedule.amountOf; rw [sched_duties, Finset.sum_singleton, sched_amount]

/-- What a wait for the whole round gives: the event's gift. -/
theorem sched_rest :
    bigSep ((sched (F := F) m).duties (cell c e) 0 \ ∅) (fun d => (sched (F := F) m).payload (cell c e) 0 d) = gift m c e := by
  rw [Finset.sdiff_empty, sched_duties, bigSep_singleton, sched_payload]

/-! ## What is owed, and the order of the waits -/

/-- Device `c` owes at launch: its mate's `landed` amount, by its copy, and its mate's `entry` unit, by its signal. -/
def debt (c : Dev nD) : CellTallies nD τ sig Unit := tallyAt (cell (mate c) .landed) () amt + tallyAt (cell (mate c) .entry) () 1

/-- The semaphores that carry a level: those of the kernel's own core. -/
def levelled (g : GSem nD τ sig) : Finset Unit := if g.1.2 = .tc then {()} else ∅

/-- `entry` at 1, `landed` at 2, all others at 0. -/
def level (g : GSem nD τ sig) (_ : Unit) : ℕ :=
  match eventOf g.2 with
  | some .entry => 1 | some .landed => 2 | _ => 0

theorem level_cell (c : Dev nD) (e : Event) : level (cell c e) () = match e with | .entry => 1 | .landed => 2 | .sent => 0 := by
  unfold level; rw [eventOf_sem]; cases e <;> rfl

theorem levelled_other (g : GSem nD τ sig) (h : g.1.2 ≠ .tc) : levelled g = ∅ := if_neg h
theorem mem_levelled (c : Dev nD) (s : SemLoc sig) : () ∈ levelled ((c : Thread nD τ), s) := by
  unfold levelled; rw [if_pos rfl]; exact Finset.mem_singleton_self _

/-- Only the two semaphores of the mate are owed anything. -/
theorem debt_at {c : Dev nD} {g : GSem nD τ sig} {u : Unit} (h : 0 < debt c g u) :
    g = cell (mate c) .landed ∨ g = cell (mate c) .entry := by
  by_contra hn
  rw [not_or] at hn
  have h' : 0 < (tallyAt (cell (mate c) .landed) () amt g u) + (tallyAt (cell (mate c) .entry) () 1 g u) := h
  rw [tallyAt_apply, tallyAt_apply, if_neg (fun x => hn.1 x.1), if_neg (fun x => hn.2 x.1)] at h'
  exact Nat.lt_irrefl 0 h'

/-- The pipeline around the kernel may wait on any of its own semaphores, whatever of the debt is still open. -/
theorem wait_pipe (c : Dev nD) (s : SemLoc sig) (hs : eventOf s = none) (O : CellTallies nD τ sig Unit) (hO : O = debt c ∨ O = 0) :
    (levAts levelled level : sProp 𝕄) ⊢ MayWait (c : Thread nD τ) s () O := by
  rcases hO with rfl | rfl
  · refine MayOwe.of_cut (L := levelled) (lev := level) 0 (fun p hp => ?_) (fun g u hg => ?_) (fun p hp => ?_) (fun g u hg => ?_)
    · rw [Finset.mem_singleton.mp hp]; exact mem_levelled c s
    · rcases debt_at hg with rfl | rfl <;> exact mem_levelled _ _
    · rw [Finset.mem_singleton.mp hp]; show level ((c : Thread nD τ), s) () ≤ 0; unfold level; rw [hs]
    · rcases debt_at hg with rfl | rfl <;> rw [show u = () from rfl, level_cell] <;> decide
  · rw [MayWait_zero]; iintro -; iempintro

/-- At its wait for `entry` a device owes its mate's `landed` amount only, which lies above. -/
theorem wait_entry (c : Dev nD) :
    (levAts levelled level : sProp 𝕄)
      ⊢ MayWait (c : Thread nD τ) Event.entry.sem () (tallyAt (cell (mate c) .landed) () amt) := by
  have at_landed {g : GSem nD τ sig} {u : Unit} (hg : 0 < (tallyAt (cell (mate c) .landed) () amt : CellTallies nD τ sig Unit) g u) :
      g = cell (mate c) .landed := by
    by_contra hn
    rw [tallyAt_apply, if_neg (fun x => hn x.1)] at hg
    exact Nat.lt_irrefl 0 hg
  refine MayOwe.of_cut (L := levelled) (lev := level) 1 (fun p hp => ?_) (fun g u hg => ?_) (fun p hp => ?_) (fun g u hg => ?_)
  · rw [Finset.mem_singleton.mp hp]; exact mem_levelled c _
  · rw [at_landed hg]; exact mem_levelled _ _
  · rw [Finset.mem_singleton.mp hp]; show level (cell c .entry) () ≤ 1; rw [level_cell]
  · rw [at_landed hg, show u = () from rfl, level_cell]; decide

end Cert.Swap

end
-- ==== Proof.Body.lean ====
/-
# One device's run of the kernel

The kernel of device `c` is followed from its entry to its end. At entry it owns its two buffers whole. The output buffer
is cut into the band it fills itself and the band its mate fills, the input buffer into the columns it sends and the rest.
The second band goes to the mate with the entry signal; the mate's corresponding band comes with the mate's signal; the
copy borrows the sent columns and takes the mate's band along; the load and the store meet only what stayed. The two last
waits give the sent columns back and the filled band, and the two buffers are whole again, the output buffer holding
`result`. The three semaphores are back at zero.
-/
module

public import proofs.«01_k».proof.Proof.Schedule

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## What a device starts with and ends with -/

/-- What everyone knows: every event of every device keeps to the schedule (under the name `K` gives it), and all are in
    their first round. -/
def known (K : Dev nD × Event → ℕ) : sProp 𝕄 :=
  iprop((bigSep Finset.univ fun p : Dev nD × Event => cellInv swapG (sched m) (K p) (cell p.1 p.2))
    ∗ bigSep Finset.univ fun p : Dev nD × Event => reached swapG (cell p.1 p.2) 0)

instance known_persistent (K : Dev nD × Event → ℕ) : BI.Persistent (known m K) := by unfold known; infer_instance

theorem known_inv (K : Dev nD × Event → ℕ) (c : Dev nD) (e : Event) :
    known m K ⊢ cellInv swapG (sched m) (K (c, e)) (cell c e) := by
  have h : (bigSep Finset.univ fun p : Dev nD × Event => cellInv swapG (sched m) (K p) (cell p.1 p.2))
      ⊢ cellInv swapG (sched m) (K (c, e)) (cell c e) := bigSep_elim (Finset.mem_univ (c, e))
  unfold known
  iintro ⟨H, -⟩
  iapply h
  iexact H

theorem known_reached (K : Dev nD × Event → ℕ) (c : Dev nD) (e : Event) : known m K ⊢ reached swapG (cell c e) 0 := by
  have h : (bigSep Finset.univ fun p : Dev nD × Event => (reached swapG (cell p.1 p.2) 0 : sProp 𝕄))
      ⊢ reached swapG (cell c e) 0 := bigSep_elim (Finset.mem_univ (c, e))
  unfold known
  iintro ⟨-, H⟩
  iapply h
  iexact H

/-- The position of device `c` at its three semaphores: before their first round. -/
def positions (c : Dev nD) : sProp 𝕄 :=
  iprop(atPos swapG (cell c .entry) 0 ∅ 0 ∗ atPos swapG (cell c .sent) 0 ∅ 0 ∗ atPos swapG (cell c .landed) 0 ∅ 0)

/-- The three rights device `c` uses up: to raise its mate's `entry`, its own `sent` and its mate's `landed`. -/
def rights (c : Dev nD) : sProp 𝕄 :=
  iprop(dutyTok swapG (cell (mate c) .entry) 0 () ∗ dutyTok swapG (cell c .sent) 0 () ∗ dutyTok swapG (cell (mate c) .landed) 0 ())

/-- The ghost state of device `c`. -/
def ghost (c : Dev nD) : sProp 𝕄 := iprop(∃ K, known m K ∗ positions c ∗ rights c)

/-- What the kernel of device `c` starts from: its ghost state, the credit for its two waits that others pay for, and the
    order of the waits. -/
def start (c : Dev nD) : sProp 𝕄 :=
  iprop(ghost m c ∗ cred (tallyAt (cell c .entry) () 1) ∗ cred (tallyAt (cell c .landed) () amt) ∗ levAts levelled level)

/-- What it ends with: its three semaphores at zero. -/
def stop (c : Dev nD) : sProp 𝕄 :=
  iprop(semVal (cell c .entry) 0 ∗ semVal (cell c .sent) 0 ∗ semVal (cell c .landed) 0)

/-- The pipeline's data: the input buffer keeps the rows, the output buffer ends at `result`; the debt is open at entry and
    paid at the end. -/
def dats (_ : Fin 1) (c : Dev nD) : Dat τ (Elt F) Unit ℕ Ghost ℕ cfg0 c where
  A w := m ((cfg0.win w).arr.view.loc (c : Thread nD τ))
  after w _ := match w with
    | ⟨0, _⟩ => rows m c
    | ⟨1, _⟩ => result (rows m) c
  Φ t := match t with
    | ⟨0, _⟩ => start m c
    | ⟨_ + 1, _⟩ => stop c
  q _ := fullShare
  owed t := match t with
    | ⟨0, _⟩ => debt c
    | ⟨_ + 1, _⟩ => 0

/-! ## Cutting and joining the buffers -/

/-- The output buffer of `c` is the band of its own rows and the band of its mate's. -/
theorem out_cut (c : Dev nD) (f : Buf (Elt F) ((c : Thread nD τ).loc cc0_stg1_0)) :
    ((((c : Thread nD τ).loc cc0_stg1_0) ↦{fullShare} f : sProp 𝕄)) ⊣⊢ iprop(ownBand c c f ∗ ownBand c (mate c) f) := by
  have h := pointsTo_split_subset (Ix := Unit) (Val := Elt F) (Name := ℕ) (U := Ghost) (Lvl := ℕ)
    (ℓ := (c : Thread nD τ).loc cc0_stg1_0) (q := fullShare) (f := f) (Finset.subset_univ (band c).view.set)
  have hr : ((Finset.univ : Finset (Idx ((c : Thread nD τ).loc cc0_stg1_0))) \ (band c).view.set) = (band (mate c)).view.set := rest_band c
  rw [hr] at h
  exact h

/-- What stays of the input buffer when the sent columns are lent. -/
def ownRest (c : Dev nD) : sProp 𝕄 :=
  ((c : Thread nD τ).loc cc0_stg0_0) ↦[Finset.univ \ (sendCols c).view.set]{fullShare} (rows m c : Buf (Elt F) ((c : Thread nD τ).loc cc0_stg0_0))

/-- The input buffer of `c` is the columns it sends and the rest. -/
theorem in_cut (c : Dev nD) :
    ((((c : Thread nD τ).loc cc0_stg0_0) ↦{fullShare} (rows m c : Buf (Elt F) ((c : Thread nD τ).loc cc0_stg0_0)) : sProp 𝕄))
      ⊣⊢ iprop(ownSend m c ∗ ownRest m c) :=
  pointsTo_split_subset (Finset.subset_univ _)

/-! ## The effects at this exchange's semaphores -/

/-- A wait for the one round of one of `c`'s events: it spends the credit and brings the event's gift. -/
theorem wait_event (K : Dev nD × Event → ℕ) (c : Dev nD) (e : Event) {w : TpuEff nD τ sig (Elt F) Λ₀ .tc PUnit}
    (hw : ∀ Q : PUnit → sProp 𝕄, wpE (defs₀ (F := F)) Variants.none (c : Thread nD τ) none Set.univ w Q
      = waitSpec (c : Thread nD τ) Set.univ e.sem e.amount Q)
    (O : CellTallies nD τ sig Unit) (W : Waits sig Unit) {α : Type} {Q : α → sProp 𝕄}
    {k : PUnit → Prog (TpuEff nD τ sig (Elt F) Λ₀ .tc) α} :
    iprop(known m K ∗ cred (tallyAt (cell c e) () e.amount) ∗ owes (c : Thread nD τ) O W ∗ MayWait (c : Thread nD τ) e.sem () O
        ∗ atPos swapG (cell c e) 0 ∅ 0)
      ⊢ iprop(((owes (c : Thread nD τ) O (insert (e.sem, ()) W) ∗ atPos swapG (cell c e) 1 ∅ 0 ∗ gift m c e)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  iintro ⟨#Hk, Hc, Ho, Hm, Ha⟩ Hn
  iapply (Rounds.wp_wait_rest_token Variants.none swapG (sched m) (c : Thread nD τ) none (κ := K (c, e)) hw (Set.mem_univ _) ()
    (O := O) (W := W) (R := 0) (m := 0) (T := ∅) (by rw [sched_expect, Nat.zero_add])) $$ [Hc Ho Hm Ha]
  · isplitr; · iapply (known_inv m K c e); iexact Hk
    isplitl [Hc]; · iexact Hc
    isplitl [Ho]; · iexact Ho
    isplitl [Hm]; · iexact Hm
    iexact Ha
  iintro ⟨Ho, Ha, -, Hg⟩
  iapply Hn
  isplitl [Ho]; · iexact Ho
  isplitl [Ha]; · iexact Ha
  iapply (Entails.of_eq (sched_rest m c e)); iexact Hg

/-- A wait for the copy's send semaphore, told by the columns it frees, is a wait for `sent`. -/
theorem sent_wait (c : Dev nD) {h : (band c).view.WordExact} {h' : (sendCols c).view.WordExact} (Q : PUnit → sProp 𝕄) :
    wpE (defs₀ (F := F)) Variants.none (c : Thread nD τ) none Set.univ
        (.waitDma2 cc0_scratch0.sem (band c) (sendCols c) h h') Q
      = waitSpec (c : Thread nD τ) Set.univ Event.sent.sem Event.sent.amount Q := rfl

/-- A wait for the copy's receive semaphore, told by the band of a copy, is a wait for `landed`. -/
theorem landed_wait (c : Dev nD) {h : (sendCols c).view.WordExact} {h' : (band c).view.WordExact} (Q : PUnit → sProp 𝕄) :
    wpE (defs₀ (F := F)) Variants.none (c : Thread nD τ) none Set.univ
        (.waitDma2 cc0_scratch1.sem (sendCols c) (band c) h h') Q
      = waitSpec (c : Thread nD τ) Set.univ Event.landed.sem Event.landed.amount Q := rfl

/-- An event whose round is over gives its semaphore back, at zero. -/
theorem close_event (K : Dev nD × Event → ℕ) (c : Dev nD) (e : Event) :
    iprop(known m K ∗ atPos swapG (cell c e) 1 ∅ 0) ⊢ (|={Set.univ}=> semVal (cell c e) 0 : sProp 𝕄) := by
  iintro ⟨#Hk, Ha⟩
  iapply (Rounds.cell_close swapG (sched m) (Set.mem_univ (K (c, e))) (fun h => h) (R := 1) (sched_later m (cell c e)))
  isplitr; · iapply (known_inv m K c e); iexact Hk
  iexact Ha

/-- The amount of a copy is the same into every band. -/
theorem amount_of (d : Dev nD) (s : DmaSem sig) : (band d).view.amount (.dma s) = amt := rfl

/-- The remote copy: it borrows the sent columns and takes the mate's band with it, promising what `result` says there. -/
theorem send (K : Dev nD × Event → ℕ) (c n : Dev nD) (hn : n = mate c)
    {hsc : (band c : Memref sig (Dev.tc n : Thread nD τ).2.kind .vmem S256x256 .bf16).view.ref.isScScratch = false}
    {hsrc : (sendCols c).view.WordExact} {hdst : (band c).view.WordExact}
    {hsem : DmaTarget.Typed .vmem (.dma cc0_scratch1.sem) (.remote (Dev.tc n : Thread nD τ) (band c) (.dma cc0_scratch0.sem) hsc)}
    (f : Buf (Elt F) ((mate c : Thread nD τ).loc cc0_stg1_0)) (W : Waits sig Unit) {α : Type} {Q : α → sProp 𝕄}
    {k : PUnit → Prog (TpuEff nD τ sig (Elt F) Λ₀ .tc) α} :
    iprop(known m K ∗ ownSend m c ∗ ownBand (mate c) c f ∗ owes (c : Thread nD τ) (tallyAt (cell (mate c) .landed) () amt) W
        ∗ dutyTok swapG (cell c .sent) 0 () ∗ dutyTok swapG (cell (mate c) .landed) 0 ())
      ⊢ iprop(((cred (tallyAt (cell c .sent) () amt) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (sendCols c) (.remote (Dev.tc n : Thread nD τ) (band c) (.dma cc0_scratch0.sem) hsc)
                (.dma cc0_scratch1.sem) hsrc hdst hsem) k) Q) := by
  subst hn
  have lent : ((sendCols c).view.loc (c : Thread nD τ) ↦[(sendCols c).view.set]{fullShare} rows m c : sProp 𝕄)
      ⊢ (sched m).payload ((c : Thread nD τ), .dma cc0_scratch0.sem) 0 () :=
    Entails.of_eq (sched_payload m c .sent 0 ()).symm
  have brought : ((band c).view.loc (mate c : Thread nD τ) ↦[(band c).view.set]{fullShare}
        (band c).view.write (Elt F) f ((sendCols c).view.read (Elt F) (rows m c)) Finset.univ : sProp 𝕄)
      ⊢ (sched m).payload ((mate c : Thread nD τ), .dma cc0_scratch1.sem) 0 () := by
    refine Entails.trans (Entails.of_eq ?_) (Entails.of_eq (sched_payload m (mate c) .landed 0 ()).symm)
    unfold gift ownBand
    rw [mate_mate]
    exact pointsTo_congr fun i hi => copy_written (rows m) c f i hi
  have rule := Rounds.wp_send_pointsTo (Γ := .empty) (Q := Q) (k := k) (hsc := hsc) (hsrc := hsrc) (hdst := hdst) (hsem := hsem)
    Variants.none (defs := defs₀ (F := F)) swapG (sched m) (c : Thread nD τ) none (κ₁ := K (c, .sent)) (κ₂ := K (mate c, .landed))
    (r₁ := 0) (r₂ := 0) (d₁ := ()) (d₂ := ()) (sched_mem m c .sent) (sched_mem m (mate c) .landed) () () amt (amount_of c _)
    (sched_amount m c .sent 0 ()) (sched_amount m (mate c) .landed 0 ()) 0 (zero_add _).symm (W := W) lent brought (Es := Set.univ)
  iintro ⟨#Hk, Hs, Hb, Ho, Ht, Ht'⟩ Hn
  unfold ownSend ownBand
  iapply rule $$ [Hs Hb Ho Ht Ht']
  · isplitr; · iapply (known_inv m K c .sent); iexact Hk
    isplitr; · iapply (known_inv m K (mate c) .landed); iexact Hk
    isplitl [Hs]; · iexact Hs
    isplitl [Hb]; · iexact Hb
    isplitl [Ho]; · iexact Ho
    isplitl [Ht]; · iexact Ht
    isplitr; · iapply (known_reached m K c .sent); iexact Hk
    isplitl [Ht']; · iexact Ht'
    iapply (known_reached m K (mate c) .landed); iexact Hk
  iexact Hn

/-- The entry signal: it gives the mate the band of this device's output buffer that the mate is to fill. -/
theorem signal (K : Dev nD × Event → ℕ) (c : Dev nD) (f : Buf (Elt F) ((c : Thread nD τ).loc cc0_stg1_0)) (W : Waits sig Unit)
    {α : Type} {Q : α → sProp 𝕄} {k : PUnit → Prog (TpuEff nD τ sig (Elt F) Λ₀ .tc) α} :
    iprop(known m K ∗ ownBand c (mate c) f ∗ owes (c : Thread nD τ) (debt c) W ∗ dutyTok swapG (cell (mate c) .entry) 0 ())
      ⊢ iprop((owes (c : Thread nD τ) (tallyAt (cell (mate c) .landed) () amt) W
            -∗ wp frame (wpE (defs₀ (F := F)) Variants.none (c : Thread nD τ) none) Set.univ (k ⟨⟩) Q)
          -∗ wp frame (wpE (defs₀ (F := F)) Variants.none (c : Thread nD τ) none) Set.univ
              (.op (.semSignal (mate c : Thread nD τ) (SemArray.scalar (sig.barrier 0 rfl) : Sems sig S_).sem 1) k) Q) := by
  have rule := Rounds.wp_signal (Γ := .empty) (Q := Q) (k := k) Variants.none (defs := defs₀ (F := F)) swapG (sched m)
    (c : Thread nD τ) none (dst := (mate c : Thread nD τ)) (κ := K (mate c, .entry)) (r := 0) (d := ()) (sched_mem m (mate c) .entry)
    (sched_amount m (mate c) .entry 0 ()) () (tallyAt (cell (mate c) .landed) () amt) (O₀ := debt c) rfl (W := W) (Es := Set.univ)
  have pay : gift m (mate c) .entry
      ⊢ (sched m).payload ((mate c : Thread nD τ), .reg (SemArray.scalar (sig.barrier 0 rfl) : Sems sig S_).sem) 0 () :=
    Entails.of_eq (sched_payload m (mate c) .entry 0 ()).symm
  iintro ⟨#Hk, Hb, Ho, Ht⟩ Hn
  iapply rule $$ [Hb Ho Ht]
  · isplitr; · iapply (known_inv m K (mate c) .entry); iexact Hk
    isplitl [Ho]; · iexact Ho
    isplitl [Ht]; · iexact Ht
    isplitl [Hb]
    · iapply pay
      unfold gift
      rw [mate_mate]
      isplitl [Hb]; · iexists f; iexact Hb
      iapply (known_reached m K c .landed); iexact Hk
    iapply (known_reached m K (mate c) .entry); iexact Hk
  iexact Hn

/-- The store's band, after the store, holds what `result` says. -/
theorem own_filled (c : Dev nD) (f : Buf (Elt F) ((c : Thread nD τ).loc cc0_stg1_0)) :
    ((outBuf.access (ownRect c)).loc (c : Thread nD τ) ↦[(band c).view.set]{fullShare}
        (outBuf.access (ownRect c)).write (Elt F) f (k0_pay1 ((inBuf.access (keepRect c)).read (Elt F) (rows m c))) Finset.univ : sProp 𝕄)
      ⊢ (((c : Thread nD τ).loc cc0_stg1_0) ↦[(band c).view.set]{fullShare}
          (result (rows m) c : Buf (Elt F) ((c : Thread nD τ).loc cc0_stg1_0))) := by
  rw [stored_eq]
  have h : ∀ i ∈ (band c).view.set, (outBuf.access (ownRect c)).write (Elt F) f
      ((inBuf.access (keepRect c)).read (Elt F) (rows m c)) Finset.univ i = result (rows m) c i :=
    fun i hi => store_written (rows m) c f i hi
  exact Entails.of_eq (pointsTo_congr (ℓ := (c : Thread nD τ).loc cc0_stg1_0) h)

/-- The move inside a device: the kept columns are loaded, and stored into the band of the device's own rows. -/
theorem local_move (c : Dev nD) (f : Buf (Elt F) ((c : Thread nD τ).loc cc0_stg1_0))
    {hl : inBuf.view.LoadsAt (keepRect c).toLoadRect} {hl' : outBuf.view.LoadsAt (ownRect c).toLoadRect}
    {hx : (outBuf.access (ownRect c)).Stores Finset.univ}
    {hm : (Finset.univ : Finset (ownRect c).shape.Idx) = Finset.univ ∨ ∀ a, (ownRect c).stride a = 1}
    {α : Type} {Q : α → sProp 𝕄} {k : PUnit → Prog (TpuEff nD τ sig (Elt F) Λ₀ .tc) α} :
    iprop(ownRest m c ∗ ownBand c c f)
      ⊢ iprop(((ownRest m c ∗ ownBand c c (result (rows m) c))
            -∗ wp frame (wpE (defs₀ (F := F)) Variants.none (c : Thread nD τ) none) Set.univ (k ⟨⟩) Q)
          -∗ wp frame (wpE (defs₀ (F := F)) Variants.none (c : Thread nD τ) none) Set.univ
              (.op (.load inBuf (keepRect c).toLoadRect hl) fun v => .op (.load outBuf (ownRect c).toLoadRect hl') fun _ =>
                .op (.store outBuf (ownRect c) (k0_pay1 v) Finset.univ hx hm) k) Q) := by
  iintro ⟨Hr, Hb⟩ Hn
  unfold ownRest
  iapply (wp_load_rect Variants.none (c : Thread nD τ) none Set.univ (m := inBuf) (r := keepRect c) (keep_sub c)) $$ Hr
  iintro Hr
  unfold ownBand
  iapply (wp_load_rect Variants.none (c : Thread nD τ) none Set.univ (m := outBuf) (r := ownRect c)
    (by rw [ownRect_eq])) $$ Hb
  iintro Hb
  iapply (wp_store Variants.none (c : Thread nD τ) none Set.univ (m := outBuf) (r := ownRect c) (Mk := Finset.univ)
    (by rw [ownRect_eq]; exact Finset.Subset.refl _)) $$ Hb
  iintro Hb
  ihave Hb := (own_filled m c f) $$ Hb
  iapply Hn
  isplitl [Hr]; · iexact Hr
  iexact Hb

/-! ## The run -/

/-- A whole buffer of the kernel at contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the kernel's one point is entered with: what the device starts from, its debt, its rows in the input buffer and
    anything in the output buffer. -/
def before (K : Dev nD × Event → ℕ) (c : Dev nD) (f : Buf (Elt F) ((c : Thread nD τ).loc cc0_stg1_0)) (W : Waits sig Unit) : sProp 𝕄 :=
  iprop(known m K ∗ positions c ∗ rights c ∗ cred (tallyAt (cell c .entry) () 1) ∗ cred (tallyAt (cell c .landed) () amt)
    ∗ levAts levelled level ∗ owes (c : Thread nD τ) (debt c) W
    ∗ (((c : Thread nD τ).loc cc0_stg0_0) ↦{fullShare} (rows m c : Buf (Elt F) ((c : Thread nD τ).loc cc0_stg0_0)))
    ∗ (((c : Thread nD τ).loc cc0_stg1_0) ↦{fullShare} f))

/-- What it leaves: the semaphores at zero, no debt, the rows where they were and `result` in the output buffer. -/
def after (c : Dev nD) : sProp 𝕄 :=
  iprop(stop c ∗ (∃ W, owes (c : Thread nD τ) 0 W)
    ∗ (((c : Thread nD τ).loc cc0_stg0_0) ↦{fullShare} (rows m c : Buf (Elt F) ((c : Thread nD τ).loc cc0_stg0_0)))
    ∗ (((c : Thread nD τ).loc cc0_stg1_0) ↦{fullShare} (result (rows m) c : Buf (Elt F) ((c : Thread nD τ).loc cc0_stg1_0))))

set_option maxHeartbeats 1000000 in
/-- The kernel of device `c`, run from `before`, ends in `after`. -/
theorem kernel_run (K : Dev nD × Event → ℕ) (c : Dev nD) (f : Buf (Elt F) ((c : Thread nD τ).loc cc0_stg1_0)) (W : Waits sig Unit)
    (Q : PUnit → sProp 𝕄) :
    iprop(before m K c f W ∗ (after m c -∗ Q ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            cc0_scratch0 cc0_scratch1) Q := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before positions rights
  iintro ⟨⟨#Hk, ⟨HaE, HaS, HaL⟩, ⟨HtE, HtS, HtL⟩, HcE, HcL, #Hlev, Ho, Hx, Hout⟩, Hend⟩
  -- cut the two buffers
  ihave Hout := (out_cut c f).1 $$ Hout
  icases Hout with ⟨Hmine, Htheirs⟩
  ihave Hx := (in_cut m c).1 $$ Hx
  icases Hx with ⟨Hsend, Hrest⟩
  -- the signal gives the mate its band of this device's buffer
  simp only [signal_target c]
  iapply (signal m K c f W) $$ [Htheirs Ho HtE]
  · isplitr; · iexact Hk
    isplitl [Htheirs]; · iexact Htheirs
    isplitl [Ho] <;> iassumption
  iintro Ho
  -- the wait brings this device's band of the mate's buffer
  iapply (wait_event m K c .entry (wpE_semWait_eq Variants.none (c : Thread nD τ) none Set.univ)
    (tallyAt (cell (mate c) .landed) () amt) W) $$ [HcE Ho HaE]
  · isplitr; · iexact Hk
    isplitl [HcE]; · iexact HcE
    isplitl [Ho]; · iexact Ho
    isplitr; · iapply (wait_entry (F := F) c); iexact Hlev
    iexact HaE
  iintro ⟨Ho, HaE, Hg⟩
  ihave Hg := (show gift m c .entry ⊢ iprop((∃ f, ownBand (mate c) c f) ∗ reached swapG (cell (mate c) .landed) 0)
    from Entails.refl _) $$ Hg
  icases Hg with ⟨⟨%g, Hband⟩, -⟩
  -- the copy
  iapply (send m K c _ (copy_target c) g _) $$ [Hsend Hband Ho HtS HtL]
  · isplitr; · iexact Hk
    isplitl [Hsend]; · iexact Hsend
    isplitl [Hband]; · iexact Hband
    isplitl [Ho]; · iexact Ho
    isplitl [HtS] <;> iassumption
  iintro ⟨HcS, Ho⟩
  -- the kept columns into this device's own band
  iapply (local_move m c f) $$ [Hrest Hmine]
  · isplitl [Hrest]; · iexact Hrest
    iexact Hmine
  iintro ⟨Hrest, Hmine⟩
  -- the two waits of the copy
  iapply (wait_event m K c .sent (sent_wait c) 0 _) $$ [HcS Ho HaS]
  · isplitr; · iexact Hk
    isplitl [HcS]; · iexact HcS
    isplitl [Ho]; · iexact Ho
    isplitr; · rw [MayWait_zero]; iempintro
    iexact HaS
  iintro ⟨Ho, HaS, Hsend⟩
  ihave Hsend := (show gift m c .sent ⊢ ownSend m c from Entails.refl _) $$ Hsend
  iapply (wait_event m K c .landed (landed_wait c) 0 _) $$ [HcL Ho HaL]
  · isplitr; · iexact Hk
    isplitl [HcL]; · iexact HcL
    isplitl [Ho]; · iexact Ho
    isplitr; · rw [MayWait_zero]; iempintro
    iexact HaL
  iintro ⟨Ho, HaL, Hlanded⟩
  ihave Hlanded := (show gift m c .landed ⊢ ownBand c (mate c) (result (rows m) c) from Entails.refl _) $$ Hlanded
  -- the semaphores back, at zero
  imod (close_event m K c .entry) $$ [HaE] with HzE
  · isplitr; · iexact Hk
    iexact HaE
  imod (close_event m K c .sent) $$ [HaS] with HzS
  · isplitr; · iexact Hk
    iexact HaS
  imod (close_event m K c .landed) $$ [HaL] with HzL
  · isplitr; · iexact Hk
    iexact HaL
  rw [wp_ret]; imodintro
  iapply Hend
  unfold after stop
  isplitl [HzE HzS HzL]
  · isplitl [HzE]; · iexact HzE
    isplitl [HzS] <;> iassumption
  isplitl [Ho]; · iexists _; iexact Ho
  isplitl [Hsend Hrest]
  · iapply (in_cut m c).2
    isplitl [Hsend]; · iexact Hsend
    iexact Hrest
  iapply (out_cut c _).2
  isplitl [Hmine]; · iexact Hmine
  iexact Hlanded

end Cert.Swap

end
-- ==== Proof.Launch.lean ====
/-
# The launch

The run of one device's kernel becomes the run of the whole program. The pipeline around the kernel fetches the device's
rows into the input buffer and writes the output buffer back; what the library asks of the kernel at its one point is
`kernel_run`. Before the kernels start, the ghost state of all three semaphores of all four devices is made at once and
dealt out: positions stay where they are, the rights to raise `entry` and `landed` go to the mate. The credit a device
starts with is what its mate owes it. `run_main` is the result: the program ends, each window's array holds what the
pipeline's data say, and every semaphore is at zero.
-/
module

public import proofs.«01_k».proof.Proof.Body
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## The kernel at its one point -/

/-- What the pipeline hands the kernel. -/
def handed (c : Dev nD) : sProp 𝕄 :=
  iprop(start m c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))

/-- What it takes back. -/
def taken (c : Dev nD) : sProp 𝕄 :=
  iprop(stop c ∗ (dats m 0 c).owesAt () t0_0.succ ∗ holds c cc0_stg0_0 (rows m c) ∗ holds c cc0_stg1_0 (result (rows m) c))

/-- What the kernel leaves is what the pipeline takes back. -/
theorem after_taken (c : Dev nD) : after m c ⊢ taken m c := by
  unfold after taken Dat.owesAt Pipeline.owesWithin
  rw [show (dats m 0 c).owed t0_0.succ = 0 from rfl]
  iintro ⟨Hs, ⟨%W, Ho⟩, Hx, Hr⟩
  isplitl [Hs]; · iexact Hs
  isplitl [Ho]
  · iexists W
    isplitr; · ipureintro; exact fun _ _ => Or.inl trivial
    iexact Ho
  isplitl [Hx]
  · iexists _
    isplitr; · ipureintro; rfl
    iexact Hx
  iexists _
  isplitr; · ipureintro; rfl
  iexact Hr

/-- The input window is fetched, so the input buffer is met holding the device's rows. -/
theorem met_rows (c : Dev nD) (d) : (dats m 0 c).before (0 : Fin 2) t0_0 d = rows m c := by
  unfold Dat.before; rw [if_pos (fetch0_0 t0_0)]; rfl

/-- What the pipeline hands the kernel is what the kernel runs from. -/
theorem handed_before (c : Dev nD) : handed m c ⊢ iprop(∃ K f W, before m K c f W) := by
  unfold handed start ghost Dat.owesAt Pipeline.owesWithin
  iintro ⟨⟨⟨%K, Hk, Hp, Hr⟩, HcE, HcL, Hlev⟩, ⟨%W, -, Ho⟩, ⟨%d, %g, %hg, Hx⟩, ⟨%d', %f, -, Hf⟩⟩
  rw [met_rows] at hg
  subst hg
  rw [show (dats m 0 c).owed t0_0.castSucc = debt c from rfl]
  iexists K, f, W
  unfold before
  isplitl [Hk]; · iexact Hk
  isplitl [Hp]; · iexact Hp
  isplitl [Hr]; · iexact Hr
  isplitl [HcE]; · iexact HcE
  isplitl [HcL]; · iexact HcL
  isplitl [Hlev]; · iexact Hlev
  isplitl [Ho]; · iexact Ho
  isplitl [Hx]; · iexact Hx
  iexact Hf

/-- A conjunction over the windows: the input's and the output's. -/
theorem both_windows (Φ : Fin cfg0.W → sProp 𝕄) : bigSep Finset.univ Φ = iprop(Φ (0 : Fin 2) ∗ Φ (1 : Fin 2)) := bigSep_W0 Φ

/-- To own a whole buffer at contents `X` is to hold it there. -/
theorem owns_buffer (c : Dev nD) (b : Ref sig .tc) (X : b.ty.Contents (Elt F)) :
    (owns (Ix := Unit) (Name := ℕ) (U := Ghost) (Lvl := ℕ) (c : Thread nD τ) (Memref.whole b) fullShare X : sProp 𝕄) = holds c b X :=
  owns_whole_eq (c : Thread nD τ) b fullShare X

/-- The library's obligation on the kernel of device `c`. -/
theorem body_obligation (c : Dev nD) : BodyObligation (dats (F := F) m 0 c) (defs₀ (F := F)) Variants.none () Set.univ := fun t => by
  rw [fin_N0 t]
  rw [both_windows, both_windows]
  simp only [owns_buffer]
  show handed m c ⊢ wp frame (wpE (defs₀ (F := F)) Variants.none c none) Set.univ
    (cc0_body (Memref.whole cc0_stg0_0) (Memref.isWhole_whole _) (Memref.whole cc0_stg1_0) (Memref.isWhole_whole _)
      cc0_scratch0 cc0_scratch1) (fun _ => taken m c)
  refine (handed_before m c).trans ?_
  iintro ⟨%K, %f, %W, H⟩
  iapply (kernel_run m K c f W fun _ => taken m c)
  isplitl [H]; · iexact H
  iintro H
  iapply (after_taken m c); iexact H

/-! ## The ghost state, made and dealt -/

/-- A conjunction over the events, one by one. -/
theorem each_event (Φ : Event → sProp 𝕄) : bigSep Finset.univ Φ = iprop(Φ .entry ∗ Φ .sent ∗ Φ .landed) :=
  bigSep_univ_eq_bigSepL [Event.entry, Event.sent, Event.landed] (by decide) (by decide) Φ

/-- The semaphores of the exchange, all devices'. -/
def allCells : Finset (GSem nD τ sig) :=
  Finset.univ.map ⟨fun p : Dev nD × Event => cell p.1 p.2, fun _ _ h => Prod.ext (cell_inj h).1 (cell_inj h).2⟩

/-- The rights to raise them, one each. -/
def allRights : Finset (GSem nD τ sig × ℕ × Unit) :=
  Finset.univ.map ⟨fun p : Dev nD × Event => (cell p.1 p.2, 0, ()), fun _ _ h =>
    Prod.ext (cell_inj (congrArg Prod.fst h)).1 (cell_inj (congrArg Prod.fst h)).2⟩

/-- The ghost state the program is launched with. -/
def launched : Ghost :=
  (initOf (Pipeline.cells cfgs cellOf_inj) (Pipeline.launchToks cfgs cellOf_inj), initOf allCells allRights)

/-- What device `c` is dealt of it first: for each of its own events the record of the rounds, the position, the fact that
    the first round is on, and the right to raise the semaphore. -/
def dealt (c : Dev nD) : sProp 𝕄 :=
  bigSep Finset.univ fun e : Event => iprop(roundState swapG (sched m) (cell c e) 0
    ∗ atPos swapG (cell c e) 0 ∅ 0 ∗ reached swapG (cell c e) 0 ∗ dutyTok swapG (cell c e) 0 ())

/-- The exchange's part of the launch state is dealt to the devices. -/
theorem deal : BI.own (swapG (F := F) (initOf allCells allRights)) ⊢ (|==> bigSep Finset.univ (dealt m) : sProp 𝕄) := by
  have cells (Φ : GSem nD τ sig → sProp 𝕄) :
      bigSep allCells Φ = bigSep Finset.univ fun c : Dev nD => bigSep Finset.univ fun e : Event => Φ (cell c e) := by
    unfold allCells; rw [bigSep_map, bigSep_univ_prod]; rfl
  have toks : bigSep allRights (fun x => (dutyTok swapG x.1 x.2.1 x.2.2 : sProp 𝕄))
      = bigSep Finset.univ fun c : Dev nD => bigSep Finset.univ fun e : Event => dutyTok swapG (cell c e) 0 () := by
    unfold allRights; rw [bigSep_map, bigSep_univ_prod]; rfl
  refine (Rounds.fund swapG (sched m) allCells allRights).trans (Laws.bupd_mono ?_)
  rw [cells, cells, cells, toks]
  unfold dealt
  simp only [bigSep_sep']
  iintro ⟨Hs, Hr, Ha, Ht⟩
  isplitl [Hs]; · iexact Hs
  isplitl [Ha]; · iexact Ha
  isplitl [Hr]; · iexact Hr
  iexact Ht

/-- The two semaphores of the copy are the kernel's own. -/
abbrev copySems : Fin 2 → SemLoc sig := fun | 0 => Event.sent.sem | 1 => Event.landed.sem

theorem copySems_facts : Pipeline.OwnSemFacts cfg0.spec copySems := by decide

theorem copySems_zero (c : Dev nD) :
    (Pipeline.ownSems0 (Ix := Unit) (Name := ℕ) (U := Ghost) (Lvl := ℕ) (Val := Elt F) (τ := τ) copySems c : sProp 𝕄)
      = iprop(semVal (cell c .sent) 0 ∗ semVal (cell c .landed) 0) := by
  rw [Pipeline.ownSems0_eq_of_list c copySems [0, 1] (by decide) (by decide)]; rfl

/-- The barrier semaphore is the only one that outlives the kernel. -/
theorem barrier_zero (c : Dev nD) : (unscopedSems0 c : sProp 𝕄) = semVal (cell c .entry) 0 := by
  unfold unscopedSems0; rw [bigSep_eq_bigSepL_of_eq [Event.entry.sem] (by decide) (by decide)]; rfl

/-- On one device, the semaphores at zero and the record of their rounds are put under the schedule. -/
theorem settle (c : Dev nD) :
    iprop(Pipeline.ownSems0 (Ix := Unit) (Name := ℕ) (U := Ghost) (Lvl := ℕ) (Val := Elt F) (τ := τ) copySems c
        ∗ unscopedSems0 c ∗ dealt m c)
      ⊢ |={Set.univ}=> bigSep Finset.univ fun e : Event => iprop((∃ κ : ℕ, cellInv swapG (sched m) κ (cell c e))
          ∗ atPos swapG (cell c e) 0 ∅ 0 ∗ reached swapG (cell c e) 0 ∗ dutyTok swapG (cell c e) 0 ()) := by
  have one (e : Event) : iprop(semVal (cell c e) 0 ∗ roundState swapG (sched m) (cell c e) 0
        ∗ atPos swapG (cell c e) 0 ∅ 0 ∗ reached swapG (cell c e) 0 ∗ dutyTok swapG (cell c e) 0 ())
      ⊢ (|={Set.univ}=> iprop((∃ κ : ℕ, cellInv swapG (sched m) κ (cell c e))
          ∗ atPos swapG (cell c e) 0 ∅ 0 ∗ reached swapG (cell c e) 0 ∗ dutyTok swapG (cell c e) 0 ()) : sProp 𝕄) := by
    iintro ⟨Hv, Hs, H⟩
    imod ((Rounds.body_intro swapG (sched m) (cell c e)).trans inv_alloc) $$ [Hv Hs] with Hi
    · isplitl [Hv]; · iexact Hv
      iexact Hs
    imodintro
    isplitl [Hi]; · iexact Hi
    iexact H
  have zeros : iprop(Pipeline.ownSems0 (Ix := Unit) (Name := ℕ) (U := Ghost) (Lvl := ℕ) (Val := Elt F) (τ := τ) copySems c
        ∗ unscopedSems0 c) ⊢ (bigSep Finset.univ fun e : Event => semVal (cell c e) 0 : sProp 𝕄) := by
    rw [each_event, copySems_zero, barrier_zero]
    iintro ⟨⟨HS, HL⟩, HE⟩
    isplitl [HE]; · iexact HE
    isplitl [HS]; · iexact HS
    iexact HL
  refine BIBase.Entails.trans ?_ ((bigSep_mono fun e _ => one e).trans (bigSep_fupd _ _))
  rw [bigSep_sep']
  iintro ⟨Ho, Hu, Hd⟩
  isplitl [Ho Hu]
  · iapply zeros
    isplitl [Ho]; · iexact Ho
    iexact Hu
  unfold dealt; iexact Hd

/-- A fact that lasts serves every member of a conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono h

/-- The rights to raise a device's own semaphores, regrouped by who uses them. -/
theorem swap_rights :
    (bigSep Finset.univ fun c : Dev nD => bigSep Finset.univ fun e : Event => (dutyTok swapG (cell c e) 0 () : sProp 𝕄))
      ⊢ bigSep Finset.univ fun c : Dev nD => rights c := by
  unfold rights
  simp only [each_event]
  rw [bigSep_sep', bigSep_sep', bigSep_sep', bigSep_sep',
    bigSep_univ_equiv mates (fun c : Dev nD => (dutyTok swapG (cell c .entry) 0 () : sProp 𝕄)),
    bigSep_univ_equiv mates (fun c : Dev nD => (dutyTok swapG (cell c .landed) 0 () : sProp 𝕄))]
  exact Entails.refl _

/-- All devices together: the names of the events become known to all, and each device gets its ghost state. -/
theorem spread :
    (bigSep Finset.univ fun c : Dev nD => bigSep Finset.univ fun e : Event => iprop((∃ κ : ℕ, cellInv swapG (sched m) κ (cell c e))
          ∗ atPos swapG (cell c e) 0 ∅ 0 ∗ reached swapG (cell c e) 0 ∗ dutyTok swapG (cell c e) 0 ()) : sProp 𝕄)
      ⊢ bigSep Finset.univ (ghost m) := by
  simp only [bigSep_sep']
  rw [← bigSep_univ_prod (fun p : Dev nD × Event => iprop(∃ κ : ℕ, (cellInv swapG (sched m) κ (cell p.1 p.2) : sProp 𝕄))),
    ← bigSep_univ_prod (fun p : Dev nD × Event => (reached swapG (cell p.1 p.2) 0 : sProp 𝕄))]
  iintro ⟨Hi, Ha, #Hr, Ht⟩
  ihave Hi := (BI.bigSep_exists_pi Finset.univ
    (fun (p : Dev nD × Event) (κ : ℕ) => (cellInv swapG (sched m) κ (cell p.1 p.2) : sProp 𝕄))) $$ Hi
  icases Hi with ⟨%K, #Hi⟩
  ihave Ht := (swap_rights (F := F)) $$ Ht
  have each (c : Dev nD) : iprop(known m K ∗ (bigSep Finset.univ fun e : Event => atPos swapG (cell c e) 0 ∅ 0) ∗ rights c)
      ⊢ ghost m c := by
    unfold ghost positions
    rw [each_event]
    iintro H
    iexists K
    iexact H
  iapply (share_out (R := known m K) fun c _ => each c)
  isplitr
  · unfold known
    isplitl; · iexact Hi
    iexact Hr
  rw [bigSep_sep']
  isplitl [Ha]; · iexact Ha
  iexact Ht

/-- The launch's global step. -/
theorem set_up :
    (bigSep Finset.univ fun c => iprop(Pipeline.ownSems0 (Ix := Unit) (Name := ℕ) (U := Ghost) (Lvl := ℕ) (Val := Elt F) (τ := τ) copySems c
        ∗ unscopedSems0 c ∗ dealt m c) : sProp 𝕄)
      ⊢ |={Set.univ}=> bigSep Finset.univ (ghost m) :=
  ((bigSep_mono fun c _ => settle m c).trans (bigSep_fupd _ _)).trans (BI.fupd_mono (spread m))

/-! ## The credit a device starts with -/

/-- What device `d` owes event `e` of device `c`: the event's amount if they are mates and the event is not `sent`. -/
theorem owed_to (d c : Dev nD) (e : Event) (he : e ≠ .sent) : debt d (cell c e) () = if d = mate c then e.amount else 0 := by
  show tallyAt (cell (mate d) .landed) () amt (cell c e) () + tallyAt (cell (mate d) .entry) () 1 (cell c e) () = _
  have to_mate (e' : Event) : (cell c e = cell (mate d) e') ↔ (d = mate c ∧ e = e') :=
    ⟨fun h => ⟨by rw [(cell_inj h).1, mate_mate], (cell_inj h).2⟩, fun h => by rw [h.1, mate_mate, h.2]⟩
  rw [tallyAt_apply, tallyAt_apply]
  cases e with
  | sent => exact absurd rfl he
  | entry =>
    by_cases h : d = mate c
    · rw [if_neg (fun x => by have := ((to_mate _).1 x.1).2; cases this), if_pos ⟨(to_mate _).2 ⟨h, rfl⟩, rfl⟩, if_pos h]; rfl
    · rw [if_neg (fun x => h ((to_mate _).1 x.1).1), if_neg (fun x => h ((to_mate _).1 x.1).1), if_neg h]
  | landed =>
    by_cases h : d = mate c
    · rw [if_pos ⟨(to_mate _).2 ⟨h, rfl⟩, rfl⟩, if_neg (fun x => by have := ((to_mate _).1 x.1).2; cases this), if_pos h]; rfl
    · rw [if_neg (fun x => h ((to_mate _).1 x.1).1), if_neg (fun x => h ((to_mate _).1 x.1).1), if_neg h]

/-- So the launch credits the event with its amount. -/
theorem credited (c : Dev nD) (e : Event) (he : e ≠ .sent) :
    tallyOn (cell c e) (launchCredit (Pipeline.owing debt) 0 (cell c e)) = (tallyAt (cell c e) () e.amount : CellTallies nD τ sig Unit) := by
  unfold tallyAt
  refine congrArg _ (Finsupp.ext fun u => ?_)
  cases u
  rw [Pipeline.launchCredit_owing, Finsupp.single_eq_same, Finset.sum_congr rfl fun d _ => owed_to d c e he,
    Finset.sum_ite_eq' Finset.univ (mate c) fun _ => e.amount, if_pos (Finset.mem_univ _)]

/-- The credit for the two waits that the mate pays for. -/
theorem credits (c : Dev nD) :
    (Pipeline.launchCred debt c : sProp 𝕄) ⊢ iprop(cred (tallyAt (cell c .entry) () 1) ∗ cred (tallyAt (cell c .landed) () amt)) := by
  have hE := credited c .entry (by decide)
  have hL := credited c .landed (by decide)
  unfold Pipeline.launchCred
  rw [bigSep_univ_at _ Event.entry.sem, hE]
  refine sep_mono_right (BIBase.Entails.trans (bigSep_elim (i := Event.landed.sem) (Finset.mem_erase.mpr ⟨by decide, Finset.mem_univ _⟩)) ?_)
  rw [hL]
  exact Entails.refl _

/-! ## The run -/

/-- What the launch gives device `c` is what its kernel starts from. -/
theorem started (ρ : Dev nD → PrngReg) (c : Dev nD) :
    iprop(Pipeline.unscopedRestP Pipeline.Prefetch.none cfg0.spec c (fun b => m ((c : Thread nD τ).loc b)) ∗ levAts levelled level
        ∗ Pipeline.launchCred debt c ∗ prngReg c (ρ c) ∗ ghost m c)
      ⊢ |={Set.univ}=> iprop(start m c ∗ emp) := by
  iintro ⟨-, Hlev, Hcr, -, Hg⟩
  ihave Hc := (credits (F := F) c) $$ Hcr
  icases Hc with ⟨HE, HL⟩
  imodintro
  unfold start
  isplitl
  · isplitl [Hg]; · iexact Hg
    isplitl [HE]; · iexact HE
    isplitl [HL]; · iexact HL
    iexact Hlev
  · iempintro

/-- The kernel has no further buffers, so that is all it is entered with. -/
theorem entered (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What it ends with is what the launch takes back: the semaphores at zero. -/
theorem left (c : Dev nD) :
    (dats m 0 c).Φ (Fin.last cfg0.N) ⊢ iprop(unscopedSems0 c ∗ Pipeline.ownSems0 copySems c ∗ Pipeline.scopedRest cfg0.spec c) := by
  rw [show (dats m 0 c).Φ (Fin.last cfg0.N) = stop c from rfl, scopedRest0_eq, copySems_zero, barrier_zero]
  unfold stop
  iintro ⟨HE, HS, HL⟩
  isplitl [HE]; · iexact HE
  isplitl [HS HL]
  · isplitl [HS]; · iexact HS
    iexact HL
  iempintro

/-- The pipeline's own waits are safe. -/
theorem pipe_waits (c : Dev nD) : (levAts levelled level : sProp 𝕄) ⊢ Pipeline.cellsWaits cfgs (dats m) () 0 c :=
  Pipeline.cellsWaits_intro cfgs (dats m) () 0 c fun w s t =>
    wait_pipe c _ (by fin_cases w <;> fin_cases s <;> decide) _ (by
      rcases t with ⟨_ | _, ht⟩
      · exact Or.inl rfl
      · exact Or.inr rfl)

theorem share_full (c : Dev nD) (w : Fin cfg0.W) : (dats m 0 c).share w = fullShare := by unfold Dat.share; split <;> rfl

set_option maxRecDepth 8000 in
/-- From any memory with all semaphores at zero, every weakly fair run of the program on the four devices ends, without a
    fault; each window's array then holds what the pipeline's data say it holds, and every semaphore is at zero. -/
theorem run_main (ρ : Dev nD → PrngReg) :
    θ_run defs (onTc (τ := τ) (main (F := F))) ⟨m, fun _ => 0, ρ⟩ (fun r =>
      (∀ c : Dev nD, ∀ w : Fin cfg0.W, r.2.mem ((cfg0.win w).arr.view.loc (c : Thread nD τ)) = (dats m 0 c).arrAt w cfg0.N)
        ∧ r.2.sem = fun _ => 0) :=
  Pipeline.θ_run_region_owing_glob_pf (fun p => (cfgs p).toPCfg) (fun p => (cfgs p).toPCfg_adm) (dats m) () cellOf_inj (0 : Fin 1)
    winFacts0.to₀ copySems_facts (Pipeline.PreFacts.none _) pipeG defs₀ Variants.none m ρ main
    (hmain := fun _ => rfl)
    (hbody := body_obligation m) (hne := fun w => by fin_cases w <;> exact Nat.succ_pos _) (harr := arr_whole0)
    (hstage := stage_whole0) (hshare := share_full m) (hdistinct := winFacts0.arr_inj)
    (O₀ := debt) (howed₀ := fun _ => rfl) (howedN := fun _ => rfl)
    (L := levelled) (lv := level) (hL := levelled_other) (hwaits := pipe_waits m)
    (G := dealt m) (G' := ghost m) (u₀ := launched)
    (hu₀ := by
      unfold launched
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := started m ρ) (hin := entered m) (hout := left m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Swap

end
-- ==== Proof.Value.lean ====
/-
# The final arrays

`run_main` says what the arrays hold in terms of the pipeline's data. Here that is read off: the argument array is as
launched, and the result array of device `c` is `result (rows m) c`. When the argument arrays are the blocks of one whole
array `x` cut by rows, `result` is the block of the same `x` cut by columns, which is the statement `run_blocks`.
-/
module

public import proofs.«01_k».proof.Proof.Launch
public import Idealize.ShloMosaic.Lib.Layout

@[expose] public section

noncomputable section

namespace Cert.Swap

open Cert.KernelIdeal Cert.KernelIdeal.Gen
open Idealize.ShloMosaic Idealize.ShloMosaic.TcCoe
open Idealize.SL.Sem

variable {F : FTy → Type} [FloatOps F]

/-! ## Blocks of a whole array -/

/-- A device's number along the second mesh axis is its parity. -/
theorem along_y : ∀ c : Dev nD, Layout.meshLin [2, 2] c.val [1] = c.val % 2 := by decide

/-- The block of rows of a whole array that device `c` holds at the start. -/
abbrev rowBlock {α : Type} (x : (⟨2, ![512, 512]⟩ : Shape).Idx → α) (c : Dev nD) : S256x512.Idx → α :=
  Layout.blockN ⟨2, ![256, 512]⟩ ⟨2, ![512, 512]⟩ (Layout.meshBlock [2, 2] ![[1], []] c) x

/-- The block of columns it is to hold at the end. -/
abbrev colBlock {α : Type} (x : (⟨2, ![512, 512]⟩ : Shape).Idx → α) (c : Dev nD) : S512x256.Idx → α :=
  Layout.blockN ⟨2, ![512, 256]⟩ ⟨2, ![512, 512]⟩ (Layout.meshBlock [2, 2] ![[], [1]] c) x

/-- From the blocks of rows, `result` is the block of columns. -/
theorem result_blocks (x : (⟨2, ![512, 512]⟩ : Shape).Idx → Elt F .bf16) (c : Dev nD) : result (rowBlock x) c = colBlock x c := by
  funext i
  have h0 : (i 0).val < 512 := (i 0).isLt
  have h1 : (i 1).val < 256 := (i 1).isLt
  unfold result rowBlock colBlock
  rw [Layout.blockN_apply, Layout.blockN_apply]
  congr 1
  funext a
  apply Fin.ext
  rw [Layout.TilesN.idx_val, Layout.TilesN.idx_val]
  match a with
  | ⟨0, _⟩ =>
    show Layout.meshLin [2, 2] (2 * (c.val / 2) + (i 0).val / 256) [1] * 256 + (i 0).val % 256 = 0 * 512 + (i 0).val
    have h := along_y (holder c ⟨(i 0).val / 256, by omega⟩)
    rw [show Layout.meshLin [2, 2] (2 * (c.val / 2) + (i 0).val / 256) [1] = (2 * (c.val / 2) + (i 0).val / 256) % 2 from h]
    omega
  | ⟨1, _⟩ =>
    show 0 * 512 + (256 * (c.val % 2) + (i 1).val) = Layout.meshLin [2, 2] c.val [1] * 256 + (i 1).val
    rw [along_y c]
    omega

/-! ## The arrays at the end -/

variable (m : (ℓ : Loc nD τ sig) → Buf (Elt F) ℓ)

/-- The input buffer is fetched from the whole argument array. -/
theorem rows_eq (c : Dev nD) : rows m c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide)
    (fun a => by fin_cases a <;> decide) _

/-- The argument array is never written. -/
theorem argument_kept (c : Dev nD) : (dats m 0 c).arrAt (0 : Fin 2) cfg0.N = m ((c : Thread nD τ).loc main_arg0) :=
  (dats m 0 c).arrAt_in (0 : Fin 2) rfl _

/-- The result array is the output buffer as the kernel left it. -/
theorem result_left (c : Dev nD) : (dats m 0 c).arrAt (1 : Fin 2) cfg0.N = result (rows m) c := by
  have whole := fun f => Memref.read_access_unit_zero (Elt F) main_v1
    (show (fun a => (win0_1.index (0 : Fin 1)) a * main_v1.ty.shape.size a) = fun _ => 0 from
      funext fun a => by fin_cases a <;> decide)
    (fun a => by fin_cases a <;> decide) f
  have back : (win0_1.blk (0 : Fin 1)).view.read (Elt F) ((dats m 0 c).arrAt (1 : Fin 2) cfg0.N) = result (rows m) c := by
    rw [show cfg0.N = ((0 : Fin 1) : Fin cfg0.N).val + 1 from rfl, (dats m 0 c).arrAt_succ (1 : Fin 2) (0 : Fin 1),
      show (cfg0.win (1 : Fin 2)).flush (0 : Fin 1) = true from flush0_1 _, if_pos rfl]
    exact View.read_write_univ _ _
  rw [← back]
  exact (whole _).symm

/-- The program from any memory: it ends without a fault, the argument arrays are as launched, the result array of device
    `c` is `result` of what the argument arrays held, and every semaphore is at zero. -/
theorem run_result (ρ : Dev nD → PrngReg) :
    θ_run defs (onTc (τ := τ) (main (F := F))) ⟨m, fun _ => 0, ρ⟩ (fun r =>
      (∀ c : Dev nD, r.2.mem ((c : Thread nD τ).loc main_v1) = result (fun d => m ((d : Thread nD τ).loc main_arg0)) c
          ∧ r.2.mem ((c : Thread nD τ).loc main_arg0) = m ((c : Thread nD τ).loc main_arg0))
        ∧ r.2.sem = fun _ => 0) :=
  (θ_run defs _ _).mono (fun r h => ⟨fun c =>
      ⟨((h.1 c (1 : Fin 2)).trans (result_left m c)).trans (by rw [show rows m = fun d : Dev nD => m ((d : Thread nD τ).loc main_arg0) from funext (rows_eq m)]),
        (h.1 c (0 : Fin 2)).trans (argument_kept m c)⟩, h.2⟩) (run_main m ρ)

/-- The program from a memory whose argument arrays are the blocks of rows of `x`: the result arrays end as the blocks of
    columns of `x`. -/
theorem run_blocks (ρ : Dev nD → PrngReg) (x : (⟨2, ![512, 512]⟩ : Shape).Idx → Elt F .bf16)
    (hx : ∀ c : Dev nD, m ((c : Thread nD τ).loc main_arg0) = rowBlock x c) :
    θ_run defs (onTc (τ := τ) (main (F := F))) ⟨m, fun _ => 0, ρ⟩ (fun r =>
      ∀ c : Dev nD, r.2.mem ((c : Thread nD τ).loc main_v1) = colBlock x c
        ∧ r.2.mem ((c : Thread nD τ).loc main_arg0) = m ((c : Thread nD τ).loc main_arg0)) :=
  (θ_run defs _ _).mono (fun r h c =>
      ⟨(h.1 c).1.trans (by rw [show (fun d : Dev nD => m ((d : Thread nD τ).loc main_arg0)) = rowBlock x from funext hx]; exact result_blocks x c),
        (h.1 c).2⟩) (run_result m ρ)

end Cert.Swap

end
-- ==== Proof.Same.lean ====
/-
# The program and its idealization

No operation was rewritten in idealizing the program, so the two are one program, written down twice. What is proved of a
run of the one at any float values therefore holds of the other.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The two kernels are the same. -/
theorem kernels : Cert.Kernel.defs₀ (F := F) = Cert.KernelIdeal.defs₀ (F := F) := by
  unfold Cert.Kernel.defs₀ Cert.KernelIdeal.defs₀
  congr 1
  funext ℓ a
  match ℓ, a with
  | 0, (_, _) => rfl

/-- And so are the pipelines around them. -/
theorem pipelines : Cert.Kernel.defs (F := F) = Cert.KernelIdeal.defs (F := F) :=
  congrArg (Pipeline.defs (Cert.KernelIdeal.pcfgs (F := F))) kernels

/-- A run of the idealized program, read at any float values, is a run of the program as printed. -/
theorem run (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q := by
  rw [pipelines]
  exact h

end Cert.Same

end
-- ==== Proof.Returned.lean ====
/-
# The reference

The reference returns its argument: its program has no operation at all, its memory stays as it was, and it has no
semaphore.
-/
module

public import proofs.«01_k».proof.Proof.Gen.ReferenceIdeal
public import Idealize.ShloMosaic.Lib.StableHlo.Run
public import Idealize.ShloMosaic.Lib.Quiescent

@[expose] public section

noncomputable section

namespace Cert.Returned

open Cert.ReferenceIdeal Cert.ReferenceIdeal.Gen
open Idealize.ShloMosaic Idealize.ShloMosaic.TcCoe Idealize.SL.Sem

variable {F : FTy → Type} [FloatOps F]

/-- The reference ends with its argument as it was and, having no semaphore, with all of them at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Returned

end
-- ==== Proof.lean ====
/- The proof of the certificate's claims. The program and its idealization are one text, so the run proved of it at any
   float values (`Cert.Swap`: modules Swap, Schedule, Body, Launch, Value; `Cert.Same` carries it over) serves all claims:
   at bit patterns and at exact values. The reference (`Cert.Returned`) returns its argument. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Value
public import proofs.«01_k».proof.Proof.Same
public import proofs.«01_k».proof.Proof.Returned
public import Idealize.ShloMosaic.Adequacy
public import Idealize.ShloMosaic.Init

@[expose] public section

noncomputable section

namespace Cert.Proof

open Idealize.ShloMosaic Idealize.SL.Sem

/-- The kernel as printed ends with its arguments unchanged and every semaphore at zero. -/
theorem kernel_frame : Cert.quiescent_Kernel := fun m g _ =>
  Cert.Same.run _ _
    ((θ_run Cert.KernelIdeal.defs _ _).mono (fun _ h => ⟨fun c => (h.1 c).2, h.2⟩) (Cert.Swap.run_result (F := Bits) m g))

/-- So does its idealization. -/
theorem kernelIdeal_frame : Cert.quiescent_KernelIdeal := fun m g _ =>
  (θ_run Cert.KernelIdeal.defs _ _).mono (fun _ h => ⟨fun c => (h.1 c).2, h.2⟩) (Cert.Swap.run_result (F := Ideal) m g)

/-- The reference at exact values does nothing: it returns its argument. -/
theorem referenceIdeal_frame : Cert.quiescent_ReferenceIdeal := fun m g _ => Cert.Returned.run (F := Ideal) m g

/-- The reference at bit patterns does nothing either. -/
theorem reference_frame : Cert.quiescent_Reference := fun m g _ => Cert.Returned.run (F := Bits) m g

/-- All claims together: the four frames, and that at exact values as well as at bit patterns each device's result array ends
    as its block of columns of the array whose blocks of rows the argument arrays were. -/
theorem claim : Cert.Claim := ⟨Cert.Kernel.Gen.facts, Cert.KernelIdeal.Gen.facts, Cert.ReferenceIdeal.Gen.facts, Cert.Reference.Gen.facts,
  kernel_frame, kernelIdeal_frame, referenceIdeal_frame, reference_frame, trivial,
  fun m g m' g' _ hx => ⟨m' _, Cert.Swap.run_blocks (F := Ideal) m g _ hx,
    (θ_run Cert.ReferenceIdeal.defs _ _).mono (fun _ h => ⟨h.1 0, h.1 0⟩) (Cert.Returned.run (F := Ideal) m' g')⟩,
  fun m g m' g' _ hx => ⟨m' _, Cert.Same.run _ _ (Cert.Swap.run_blocks (F := Bits) m g _ hx),
    (θ_run Cert.ReferenceIdeal.defs _ _).mono (fun _ h => ⟨h.1 0, h.1 0⟩) (Cert.Returned.run (F := Bits) m' g')⟩⟩

end Cert.Proof

end
